-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x200x1 : Shape := ⟨3, ![8192, 200, 1]⟩
abbrev S8192x200x32 : Shape := ⟨3, ![8192, 200, 32]⟩
abbrev S1x32 : Shape := ⟨2, ![1, 32]⟩
abbrev S32 : Shape := ⟨1, ![32]⟩
abbrev S32x32 : Shape := ⟨2, ![32, 32]⟩
abbrev S200x32x8192 : Shape := ⟨3, ![200, 32, 8192]⟩
abbrev S200x1x8192 : Shape := ⟨3, ![200, 1, 8192]⟩
abbrev S_ : Shape := ⟨0, ![]⟩
abbrev S1 : Shape := ⟨1, ![1]⟩
abbrev S64x32 : Shape := ⟨2, ![64, 32]⟩
abbrev S64 : Shape := ⟨1, ![64]⟩
abbrev S64x1 : Shape := ⟨2, ![64, 1]⟩
abbrev S10x1x8192 : Shape := ⟨3, ![10, 1, 8192]⟩
abbrev S10x32x8192 : Shape := ⟨3, ![10, 32, 8192]⟩
abbrev S1x1x8192 : Shape := ⟨3, ![1, 1, 8192]⟩
abbrev S1x8192 : Shape := ⟨2, ![1, 8192]⟩
abbrev S1x32x8192 : Shape := ⟨3, ![1, 32, 8192]⟩
abbrev S32x8192 : Shape := ⟨2, ![32, 8192]⟩
abbrev S64x8192 : Shape := ⟨2, ![64, 8192]⟩

abbrev nBuf : Space → Nat
  | .hbm => 29
  | .vmem => 10
  | .smem => 0
  | _ => 0

abbrev bufTy : (tb : Table) → Fin (tcTables nBuf tb) → BufTy
  | .hbm, ⟨0, _⟩ => ⟨S8192x200x1, .i32⟩
  | .hbm, ⟨1, _⟩ => ⟨S8192x200x32, .f32⟩
  | .hbm, ⟨2, _⟩ => ⟨S1x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S200x32x8192, .f32⟩
  | .hbm, ⟨11, _⟩ => ⟨S200x1x8192, .i32⟩
  | .hbm, ⟨12, _⟩ => ⟨S_, .f32⟩
  | .hbm, ⟨13, _⟩ => ⟨S32x32, .f32⟩
  | .hbm, ⟨14, _⟩ => ⟨S32, .f32⟩
  | .hbm, ⟨15, _⟩ => ⟨S_, .i32⟩
  | .hbm, ⟨16, _⟩ => ⟨S1, .i32⟩
  | .hbm, ⟨17, _⟩ => ⟨S32x32, .f32⟩
  | .hbm, ⟨18, _⟩ => ⟨S32x32, .f32⟩
  | .hbm, ⟨19, _⟩ => ⟨S64x32, .f32⟩
  | .hbm, ⟨20, _⟩ => ⟨S32x32, .f32⟩
  | .hbm, ⟨21, _⟩ => ⟨S32x32, .f32⟩
  | .hbm, ⟨22, _⟩ => ⟨S64x32, .f32⟩
  | .hbm, ⟨23, _⟩ => ⟨S64, .f32⟩
  | .hbm, ⟨24, _⟩ => ⟨S64x1, .f32⟩
  | .hbm, ⟨25, _⟩ => ⟨S64, .f32⟩
  | .hbm, ⟨26, _⟩ => ⟨S64x1, .f32⟩
  | .hbm, ⟨27, _⟩ => ⟨S200x32x8192, .f32⟩
  | .hbm, ⟨28, _⟩ => ⟨S8192x200x32, .f32⟩
  | .local _ .vmem, ⟨0, _⟩ => ⟨S10x1x8192, .i32⟩
  | .local _ .vmem, ⟨1, _⟩ => ⟨S10x1x8192, .i32⟩
  | .local _ .vmem, ⟨2, _⟩ => ⟨S10x32x8192, .f32⟩
  | .local _ .vmem, ⟨3, _⟩ => ⟨S10x32x8192, .f32⟩
  | .local _ .vmem, ⟨4, _⟩ => ⟨S64x32, .f32⟩
  | .local _ .vmem, ⟨5, _⟩ => ⟨S64x32, .f32⟩
  | .local _ .vmem, ⟨6, _⟩ => ⟨S64x1, .f32⟩
  | .local _ .vmem, ⟨7, _⟩ => ⟨S64x1, .f32⟩
  | .local _ .vmem, ⟨8, _⟩ => ⟨S10x32x8192, .f32⟩
  | .local _ .vmem, ⟨9, _⟩ => ⟨S10x32x8192, .f32⟩
  | _, _ => ⟨S8192x200x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_c : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_v0 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10x1x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10x32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10x32x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8192x200x1 : Shape := ⟨3, ![8192, 200, 1]⟩
abbrev S8192x200x32 : Shape := ⟨3, ![8192, 200, 32]⟩
abbrev S1x32 : Shape := ⟨2, ![1, 32]⟩
abbrev S32 : Shape := ⟨1, ![32]⟩
abbrev S32x32 : Shape := ⟨2, ![32, 32]⟩
abbrev S8192x200 : Shape := ⟨2, ![8192, 200]⟩
abbrev S_ : Shape := ⟨0, ![]⟩
abbrev S1x1x32 : Shape := ⟨3, ![1, 1, 32]⟩

abbrev nBuf : Space → Nat
  | .hbm => 62
  | .vmem => 0
  | .smem => 0
  | _ => 0

abbrev bufTy : (tb : Table) → Fin (tcTables nBuf tb) → BufTy
  | .hbm, ⟨0, _⟩ => ⟨S8192x200x1, .i32⟩
  | .hbm, ⟨1, _⟩ => ⟨S8192x200x32, .f32⟩
  | .hbm, ⟨2, _⟩ => ⟨S1x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S8192x200, .i32⟩
  | .hbm, ⟨11, _⟩ => ⟨S_, .i32⟩
  | .hbm, ⟨12, _⟩ => ⟨S8192x200, .i32⟩
  | .hbm, ⟨13, _⟩ => ⟨S8192x200, .i1⟩
  | .hbm, ⟨14, _⟩ => ⟨S8192x200x1, .f32⟩
  | .hbm, ⟨15, _⟩ => ⟨S8192x200x32, .f32⟩
  | .hbm, ⟨16, _⟩ => ⟨S1x1x32, .f32⟩
  | .hbm, ⟨17, _⟩ => ⟨S8192x200x32, .f32⟩
  | .hbm, ⟨18, _⟩ => ⟨S8192x200x32, .f32⟩
  | .hbm, ⟨19, _⟩ => ⟨S_, .f32⟩
  | .hbm, ⟨20, _⟩ => ⟨S8192x200x32, .f32⟩
  | .hbm, ⟨21, _⟩ => ⟨S8192x200x32, .i1⟩
  | .hbm, ⟨22, _⟩ => ⟨S_, .f32⟩
  | .hbm, ⟨23, _⟩ => ⟨S8192x200x32, .f32⟩
  | .hbm, ⟨24, _⟩ => ⟨S8192x200x32, .f32⟩
  | .hbm, ⟨25, _⟩ => ⟨S8192x200x32, .f32⟩
  | .hbm, ⟨26, _⟩ => ⟨S8192x200x32, .f32⟩
  | .hbm, ⟨27, _⟩ => ⟨S1x1x32, .f32⟩
  | .hbm, ⟨28, _⟩ => ⟨S8192x200x32, .f32⟩
  | .hbm, ⟨29, _⟩ => ⟨S8192x200x32, .f32⟩
  | .hbm, ⟨30, _⟩ => ⟨S_, .f32⟩
  | .hbm, ⟨31, _⟩ => ⟨S8192x200x32, .f32⟩
  | .hbm, ⟨32, _⟩ => ⟨S8192x200x32, .i1⟩
  | .hbm, ⟨33, _⟩ => ⟨S_, .f32⟩
  | .hbm, ⟨34, _⟩ => ⟨S8192x200x32, .f32⟩
  | .hbm, ⟨35, _⟩ => ⟨S8192x200x32, .f32⟩
  | .hbm, ⟨36, _⟩ => ⟨S8192x200x32, .f32⟩
  | .hbm, ⟨37, _⟩ => ⟨S8192x200x32, .f32⟩
  | .hbm, ⟨38, _⟩ => ⟨S1x1x32, .f32⟩
  | .hbm, ⟨39, _⟩ => ⟨S8192x200x32, .f32⟩
  | .hbm, ⟨40, _⟩ => ⟨S8192x200x32, .f32⟩
  | .hbm, ⟨41, _⟩ => ⟨S_, .f32⟩
  | .hbm, ⟨42, _⟩ => ⟨S8192x200x32, .f32⟩
  | .hbm, ⟨43, _⟩ => ⟨S8192x200x32, .i1⟩
  | .hbm, ⟨44, _⟩ => ⟨S_, .f32⟩
  | .hbm, ⟨45, _⟩ => ⟨S8192x200x32, .f32⟩
  | .hbm, ⟨46, _⟩ => ⟨S8192x200x32, .f32⟩
  | .hbm, ⟨47, _⟩ => ⟨S8192x200x32, .f32⟩
  | .hbm, ⟨48, _⟩ => ⟨S8192x200x32, .f32⟩
  | .hbm, ⟨49, _⟩ => ⟨S1x1x32, .f32⟩
  | .hbm, ⟨50, _⟩ => ⟨S8192x200x32, .f32⟩
  | .hbm, ⟨51, _⟩ => ⟨S8192x200x32, .f32⟩
  | .hbm, ⟨52, _⟩ => ⟨S_, .f32⟩
  | .hbm, ⟨53, _⟩ => ⟨S8192x200x32, .f32⟩
  | .hbm, ⟨54, _⟩ => ⟨S8192x200x32, .i1⟩
  | .hbm, ⟨55, _⟩ => ⟨S_, .f32⟩
  | .hbm, ⟨56, _⟩ => ⟨S8192x200x32, .f32⟩
  | .hbm, ⟨57, _⟩ => ⟨S8192x200x32, .f32⟩
  | .hbm, ⟨58, _⟩ => ⟨S8192x200x32, .f32⟩
  | .hbm, ⟨59, _⟩ => ⟨S8192x200x1, .i1⟩
  | .hbm, ⟨60, _⟩ => ⟨S8192x200x32, .i1⟩
  | .hbm, ⟨61, _⟩ => ⟨S8192x200x32, .f32⟩
  | _, _ => ⟨S8192x200x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call4_v0 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Proof.Mlp.lean ====
/-
  The mathematics of the kernel, over the extended reals and free of any program: the leaky rectifier in its two spellings, one dense layer, the two-layer network, and one column of the
  kernel's body, which evaluates the vacancy network and the shelf network together from stacked weights and picks one of them by a mask bit.
-/
module

public import Idealize.ShloMosaic.PureOps.Ideal.Laws
public import Idealize.ShloMosaic.Lib.ValueIdx

@[expose] public section

noncomputable section

namespace Cert.Mlp

open Idealize.ShloMosaic
open scoped BigOperators

/-- The slope of the leaky rectifier: the binary32 number nearest to one hundredth. -/
def slope : EReal := Ideal.ofBits .f32 0x3C23D70A#32

/-- The slope is a real number between zero and one. -/
theorem slope_real : ∃ r : ℝ, slope = (r : EReal) ∧ 0 < r ∧ r < 1 := by
  refine ⟨10737418 / 1073741824, ?_, by norm_num, by norm_num⟩
  unfold slope
  simp [Ideal.ofBits, Ideal.ieee, -EReal.coe_mul]
  norm_num

/-- The leaky rectifier as the kernel computes it: the larger of `z` and `slope · z`. -/
def leaky (z : EReal) : EReal := max z (slope * z)

/-- The reference computes it by a comparison with zero; the two agree at every extended real, because the slope lies between zero and one. -/
theorem ite_eq_leaky (z : EReal) : (if 0 < z then z else slope * z) = leaky z := by
  obtain ⟨r, hr, h0, h1⟩ := slope_real
  have h0' : (0 : EReal) ≤ slope := by rw [hr]; exact_mod_cast h0.le
  have h1' : slope ≤ 1 := by rw [hr]; exact_mod_cast h1.le
  unfold leaky
  by_cases hz : 0 < z
  · have hle : slope * z ≤ z := by simpa using mul_le_mul_of_nonneg_right h1' hz.le
    rw [max_eq_left hle, if_pos hz]
  · have hz' : z ≤ 0 := not_lt.mp hz
    have hle : z ≤ slope * z := by
      have hn : 0 ≤ -z := by simpa using EReal.neg_le_neg_iff.mpr hz'
      have := mul_le_mul_of_nonneg_right h1' hn
      rw [one_mul, mul_neg, EReal.neg_le_neg_iff] at this
      exact this
    rw [max_eq_right hle, if_neg hz]

/-- One dense layer followed by the leaky rectifier, at output feature `j`. -/
def layer {n k : ℕ} (h : Fin n → EReal) (w : Fin n → Fin k → EReal) (b : Fin k → EReal) (j : Fin k) : EReal :=
  leaky (∑ f, h f * w f j + b j)

/-- The two-layer network. -/
def mlp {n k e : ℕ} (x : Fin n → EReal) (w₁ : Fin n → Fin k → EReal) (b₁ : Fin k → EReal) (w₂ : Fin k → Fin e → EReal)
    (b₂ : Fin e → EReal) (j : Fin e) : EReal :=
  layer (layer x w₁ b₁) w₂ b₂ j

/-- A layer over all features whose weights are zero but for feature zero is the layer over feature zero alone: a product with zero is zero, infinities included. -/
theorem layer_first {n k : ℕ} (x : Fin (n + 1) → EReal) (u : Fin k → EReal) (b : Fin k → EReal) :
    layer x (fun f j => if f = 0 then u j else 0) b = layer (fun _ : Fin 1 => x 0) (fun _ => u) b := by
  funext j
  unfold layer
  rw [Finset.sum_eq_single (0 : Fin (n + 1)) (fun f _ hf => by simp [hf]) (fun h => absurd (Finset.mem_univ _) h)]
  simp

/-- Row `j` of the upper half of a stack of 64 rows. -/
def up (j : Fin 32) : Fin 64 := ⟨j.val, by omega⟩
/-- Row `j` of its lower half. -/
def down (j : Fin 32) : Fin 64 := ⟨32 + j.val, by omega⟩

/-- One layer of the kernel's body on one column: both halves of the stacked weights, transposed, are applied, the mask bit picks a half, and the rectifier follows. -/
def pickLayer (m : BitVec 1) (w : Fin 64 → Fin 32 → EReal) (b : Fin 64 → EReal) (h : Fin 32 → EReal) (j : Fin 32) : EReal :=
  leaky (Scalar.select m (∑ k, w (up j) k * h k + b (up j)) (∑ k, w (down j) k * h k + b (down j)))

/-- With the mask bit set, it is the upper half's layer. -/
theorem pickLayer_one (w : Fin 64 → Fin 32 → EReal) (b : Fin 64 → EReal) (h : Fin 32 → EReal) :
    pickLayer 1#1 w b h = layer h (fun k j => w (up j) k) (fun j => b (up j)) := by
  funext j
  simp [pickLayer, layer, Scalar.select, mul_comm]

/-- With the mask bit clear, the lower half's. -/
theorem pickLayer_zero (w : Fin 64 → Fin 32 → EReal) (b : Fin 64 → EReal) (h : Fin 32 → EReal) :
    pickLayer 0#1 w b h = layer h (fun k j => w (down j) k) (fun j => b (down j)) := by
  funext j
  simp [pickLayer, layer, Scalar.select, mul_comm]

/-- One column of the kernel's body: two such layers under one mask bit. -/
def column (m : BitVec 1) (w₁ : Fin 64 → Fin 32 → EReal) (b₁ : Fin 64 → EReal) (w₂ : Fin 64 → Fin 32 → EReal) (b₂ : Fin 64 → EReal)
    (x : Fin 32 → EReal) : Fin 32 → EReal :=
  pickLayer m w₂ b₂ (pickLayer m w₁ b₁ x)

/-- The column is the vacancy network where the mask bit is set and the shelf network elsewhere. -/
theorem column_eq (m : BitVec 1) (w₁ : Fin 64 → Fin 32 → EReal) (b₁ : Fin 64 → EReal) (w₂ : Fin 64 → Fin 32 → EReal)
    (b₂ : Fin 64 → EReal) (x : Fin 32 → EReal) (j : Fin 32) :
    column m w₁ b₁ w₂ b₂ x j
      = Scalar.select m
          (mlp x (fun f k => w₁ (up k) f) (fun k => b₁ (up k)) (fun k e => w₂ (up e) k) (fun e => b₂ (up e)) j)
          (mlp x (fun f k => w₁ (down k) f) (fun k => b₁ (down k)) (fun k e => w₂ (down e) k) (fun e => b₂ (down e)) j) := by
  have hm : m = 1#1 ∨ m = 0#1 := by revert m; decide
  unfold column
  rcases hm with rfl | rfl
  · rw [pickLayer_one, pickLayer_one]; rfl
  · rw [pickLayer_zero, pickLayer_zero]; rfl

end Cert.Mlp

end
-- ==== Proof.Step.lean ====
/-
  The kernel's body on one block, read at an element. The body is ten copies of one step; a step reads one row of the mask and one plane of the transposed input and writes one plane of the
  transposed output. `step_apply` reads a step at an element; `out_eq_block` says that the whole block, the ten steps together, is one function of the block's six inputs.
-/
module

public import proofs.«01_k».proof.Proof.Gen.KernelIdeal.Frame
public import proofs.«01_k».proof.Proof.Mlp
public import Idealize.ShloMosaic.Lib.Pipeline.Value
public import Idealize.ShloMosaic.Lib.Pointwise

@[expose] public section

noncomputable section

namespace Cert.KernelIdeal.Step

open Idealize.ShloMosaic Cert.KernelIdeal Cert.KernelIdeal.Gen Cert.Mlp

/-- One step of the body, read at feature `e` and batch member `b`: the column of the network over the features of that batch member, the mask bit set where its state is 50. -/
theorem step_apply (w1 w2 : FVec Ideal S64x32 .f32) (b1 b2 : FVec Ideal S64x1 .f32)
    (s : Vec Ideal S1x1x8192 .i32) (x : Vec Ideal S1x32x8192 .f32) (e : Fin 32) (b : Fin 8192) :
    k0_pay8 w1 w2 b1 b2 s x (ix3 0 e b)
      = column (IntOp.cmpi .eq (s (ix3 0 0 b)) 50#32) (fun i f => w1 (ix2 i f)) (fun i => b1 (ix2 i 0)) (fun i f => w2 (ix2 i f))
          (fun i => b2 (ix2 i 0)) (fun f => x (ix3 0 f b)) e := by
  pointwise [k0_pay8]
  rfl

/-- What the body leaves in a block, as one function of the six inputs' blocks: at plane `y 0`, feature `y 1` and batch member `y 2`, that column of the network. -/
def block (x0 : Vec Ideal S10x1x8192 .i32) (x1 : Vec Ideal S10x32x8192 .f32) (x2 x3 : Vec Ideal S64x32 .f32)
    (x4 x5 : Vec Ideal S64x1 .f32) : Vec Ideal S10x32x8192 .f32 := fun y =>
  column (IntOp.cmpi .eq (x0 (ix3 (y 0) 0 (y 2))) 50#32) (fun i f => x2 (ix2 i f)) (fun i => x4 (ix2 i 0)) (fun i f => x3 (ix2 i f))
    (fun i => x5 (ix2 i 0)) (fun f => x1 (ix3 (y 0) f (y 2))) (y 1)

variable (x0 : Vec Ideal S10x1x8192 .i32) (x1 : Vec Ideal S10x32x8192 .f32) (x2 x3 : Vec Ideal S64x32 .f32) (x4 x5 : Vec Ideal S64x1 .f32)

/-- The rectangle of one plane of a stack of ten: its element `(0, e, b)` lies at `(n, e, b)` of the stack. -/
theorem plane_idx {B C : ℕ} (n : ℕ) (hn : n < 10)
    (h : ∀ a, (![n, 0, 0] : Fin 3 → ℕ) a + (![1, B, C] : Fin 3 → ℕ) a ≤ (⟨3, ![10, B, C]⟩ : Shape).size a) (e : Fin B) (b : Fin C) :
    (Rect.unit (s := ⟨3, ![10, B, C]⟩) ![n, 0, 0] ![1, B, C] h).idx (ix3 0 e b) = ix3 ⟨n, hn⟩ e b := by
  funext a
  apply Fin.ext
  match a with
  | ⟨0, _⟩ => show n + 1 * 0 = n; omega
  | ⟨1, _⟩ => show 0 + 1 * e.val = e.val; omega
  | ⟨2, _⟩ => show 0 + 1 * b.val = b.val; omega

/-- The step at plane `n` writes what `block` has there. -/
theorem step_eq_block (n : ℕ) (h0 : ∀ a, (![n, 0, 0] : Fin 3 → ℕ) a + S1x1x8192.size a ≤ S10x1x8192.size a)
    (h1 : ∀ a, (![n, 0, 0] : Fin 3 → ℕ) a + S1x32x8192.size a ≤ S10x32x8192.size a) (z : S1x32x8192.Idx) :
    k0_pay8 (k0_pay30 x0 x1 x2 x3 x4 x5) (k0_pay31 x0 x1 x2 x3 x4 x5) (k0_pay32 x0 x1 x2 x3 x4 x5) (k0_pay33 x0 x1 x2 x3 x4 x5)
        (View.ld x0 (Rect.unit (s := S10x1x8192) ![n, 0, 0] S1x1x8192.size h0))
        (View.ld x1 (Rect.unit (s := S10x32x8192) ![n, 0, 0] S1x32x8192.size h1)) z
      = block x0 x1 x2 x3 x4 x5 ((Rect.unit (s := S10x32x8192) ![n, 0, 0] S1x32x8192.size h1).emb z) := by
  have hz : (![0, 0] : Fin 2 → ℕ) = fun _ => 0 := funext fun a => by fin_cases a <;> rfl
  have e2 : k0_pay30 x0 x1 x2 x3 x4 x5 = x2 := by
    unfold k0_pay30 k0_pay2; rw [shapeCast_self, View.ld_unit_zero hz]
  have e3 : k0_pay31 x0 x1 x2 x3 x4 x5 = x3 := by
    unfold k0_pay31 k0_pay3; rw [shapeCast_self, View.ld_unit_zero hz]
  have e4 : k0_pay32 x0 x1 x2 x3 x4 x5 = x4 := by
    unfold k0_pay32 k0_pay4; rw [shapeCast_self, View.ld_unit_zero hz]
  have e5 : k0_pay33 x0 x1 x2 x3 x4 x5 = x5 := by
    unfold k0_pay33 k0_pay5; rw [shapeCast_self, View.ld_unit_zero hz]
  rw [e2, e3, e4, e5]
  obtain ⟨e, b, rfl⟩ : ∃ (e : Fin 32) (b : Fin 8192), z = ix3 0 e b := ⟨z 1, z 2, by
    funext a
    match a with
    | ⟨0, _⟩ => exact Subsingleton.elim (α := Fin 1) _ _
    | ⟨1, _⟩ => rfl
    | ⟨2, _⟩ => rfl⟩
  rw [step_apply]
  have hn : n < 10 := by
    have := h0 0
    simp [S1x1x8192, S10x1x8192] at this
    omega
  have es : View.ld x0 (Rect.unit (s := S10x1x8192) ![n, 0, 0] S1x1x8192.size h0) (ix3 0 0 b) = x0 (ix3 ⟨n, hn⟩ 0 b) :=
    congrArg x0 (plane_idx n hn h0 0 b)
  have ex : ∀ f, View.ld x1 (Rect.unit (s := S10x32x8192) ![n, 0, 0] S1x32x8192.size h1) (ix3 0 f b) = x1 (ix3 ⟨n, hn⟩ f b) := fun f =>
    congrArg x1 (plane_idx n hn h1 f b)
  have ey : (Rect.unit (s := S10x32x8192) ![n, 0, 0] S1x32x8192.size h1).emb (ix3 0 e b) = ix3 ⟨n, hn⟩ e b := plane_idx n hn h1 e b
  rw [es, ey]
  simp only [ex]
  rfl

/-- **The body on a block**: what it leaves is `block` of the six inputs' blocks. Each of its ten stores writes the step at its plane, in whatever pieces the text of the program cuts that step. -/
theorem out_eq_block : out0_6 x0 x1 x2 x3 x4 x5 = block x0 x1 x2 x3 x4 x5 := by
  funext y
  unfold out0_6
  refine View.canon_apply_of_pieces (block x0 x1 x2 x3 x4 x5) _ ?_ y (cover0_6 _ _ _ _ _ _ _ _ _ _ y)
  simp only [List.forall_mem_cons, List.not_mem_nil, false_imp_iff, implies_true, and_true]
  exact ⟨step_eq_block x0 x1 x2 x3 x4 x5 9 _ _, step_eq_block x0 x1 x2 x3 x4 x5 8 _ _, step_eq_block x0 x1 x2 x3 x4 x5 7 _ _,
    step_eq_block x0 x1 x2 x3 x4 x5 6 _ _, step_eq_block x0 x1 x2 x3 x4 x5 5 _ _, step_eq_block x0 x1 x2 x3 x4 x5 4 _ _,
    step_eq_block x0 x1 x2 x3 x4 x5 3 _ _, step_eq_block x0 x1 x2 x3 x4 x5 2 _ _, step_eq_block x0 x1 x2 x3 x4 x5 1 _ _,
    step_eq_block x0 x1 x2 x3 x4 x5 0 _ _⟩

end Cert.KernelIdeal.Step

end
-- ==== Proof.Array.lean ====
/-
  From the blocks to the whole array. Twenty grid points each write ten planes of the transposed output; what a point writes is its block of one function of the whole arrays, and the blocks
  cover the array, so the array ends at that function.
-/
module

public import proofs.«01_k».proof.Proof.Step

@[expose] public section

noncomputable section

namespace Cert.KernelIdeal.Array

open Idealize.ShloMosaic Idealize.ShloMosaic.TcCoe Cert.KernelIdeal Cert.KernelIdeal.Gen Cert.KernelIdeal.Step Cert.Mlp

/-- The transposed output as one function of the six arrays that the grid reads: at position `i 0`, feature `i 1` and batch member `i 2`, that column of the network. -/
def full (st : IVec S200x1x8192 32) (xt : FVec Ideal S200x32x8192 .f32) (w1 w2 : FVec Ideal S64x32 .f32)
    (b1 b2 : FVec Ideal S64x1 .f32) : FVec Ideal S200x32x8192 .f32 := fun i =>
  column (IntOp.cmpi .eq (st (ix3 (i 0) 0 (i 2))) 50#32) (fun j f => w1 (ix2 j f)) (fun j => b1 (ix2 j 0)) (fun j f => w2 (ix2 j f))
    (fun j => b2 (ix2 j 0)) (fun f => xt (ix3 (i 0) f (i 2))) (i 1)

variable (m : (ℓ : Loc nD τ sig) → Buf (Elt Ideal) ℓ) (c : Dev nD)

/-- Which block each window is on at point `t`: the mask, the input and the output move along the first axis with the point; the weights and biases stay. -/
theorem index_facts : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0 ∧ win0_6.index t 2 = 0) := by
  decide +kernel

/-- Plane `p` of point `t`'s block is position `10 t + p` of the array. -/
def pos (t : Fin grid0.N) (p : Fin 10) : Fin 200 := ⟨t.val * 10 + p.val, by have := t.isLt; have e : grid0.N = 20 := N_0; omega⟩

theorem mask_block (t : Fin grid0.N) (p : Fin 10) (b : Fin 8192) :
    iblk m c 0 t (ix3 p (0 : Fin 1) b : S10x1x8192.Idx) = V m c main_call0_v1 (ix3 (pos t p) (0 : Fin 1) b) := by
  obtain ⟨⟨h0, h1, h2⟩, -⟩ := index_facts t
  refine congrArg (V m c main_call0_v1) (funext fun a => Fin.ext ?_)
  match a with
  | ⟨0, _⟩ => exact (win0_0.rect_emb_val t _ 0).trans (by rw [h0]; rfl)
  | ⟨1, _⟩ => exact win0_0.rect_emb_val_of_index_zero t 1 h1 _
  | ⟨2, _⟩ => exact win0_0.rect_emb_val_of_index_zero t 2 h2 _

theorem input_block (t : Fin grid0.N) (p : Fin 10) (f : Fin 32) (b : Fin 8192) :
    iblk m c 1 t (ix3 p f b : S10x32x8192.Idx) = V m c main_call0_v0 (ix3 (pos t p) f b) := by
  obtain ⟨-, ⟨h0, h1, h2⟩, -⟩ := index_facts t
  refine congrArg (V m c main_call0_v0) (funext fun a => Fin.ext ?_)
  match a with
  | ⟨0, _⟩ => exact (win0_1.rect_emb_val t _ 0).trans (by rw [h0]; rfl)
  | ⟨1, _⟩ => exact win0_1.rect_emb_val_of_index_zero t 1 h1 _
  | ⟨2, _⟩ => exact win0_1.rect_emb_val_of_index_zero t 2 h2 _

/-- The blocks of the weights and biases are the whole arrays. -/
theorem weight_blocks (t : Fin grid0.N) :
    iblk m c 2 t = V m c main_call0_v7 ∧ iblk m c 3 t = V m c main_call0_v10 ∧ iblk m c 4 t = V m c main_call0_v12
      ∧ iblk m c 5 t = V m c main_call0_v14 := by
  obtain ⟨-, -, ⟨h20, h21⟩, ⟨h30, h31⟩, ⟨h40, h41⟩, ⟨h50, h51⟩, -⟩ := index_facts t
  refine ⟨funext fun y => congrArg (V m c main_call0_v7) (funext fun a => Fin.ext ?_),
    funext fun y => congrArg (V m c main_call0_v10) (funext fun a => Fin.ext ?_),
    funext fun y => congrArg (V m c main_call0_v12) (funext fun a => Fin.ext ?_),
    funext fun y => congrArg (V m c main_call0_v14) (funext fun a => Fin.ext ?_)⟩
  · match a with
    | ⟨0, _⟩ => exact win0_2.rect_emb_val_of_index_zero t 0 h20 y
    | ⟨1, _⟩ => exact win0_2.rect_emb_val_of_index_zero t 1 h21 y
  · match a with
    | ⟨0, _⟩ => exact win0_3.rect_emb_val_of_index_zero t 0 h30 y
    | ⟨1, _⟩ => exact win0_3.rect_emb_val_of_index_zero t 1 h31 y
  · match a with
    | ⟨0, _⟩ => exact win0_4.rect_emb_val_of_index_zero t 0 h40 y
    | ⟨1, _⟩ => exact win0_4.rect_emb_val_of_index_zero t 1 h41 y
  · match a with
    | ⟨0, _⟩ => exact win0_5.rect_emb_val_of_index_zero t 0 h50 y
    | ⟨1, _⟩ => exact win0_5.rect_emb_val_of_index_zero t 1 h51 y

/-- The transposed output from the arrays as the grid finds them. -/
abbrev outt : FVec Ideal S200x32x8192 .f32 :=
  full (V m c main_call0_v1) (V m c main_call0_v0) (V m c main_call0_v7) (V m c main_call0_v10) (V m c main_call0_v12) (V m c main_call0_v14)

/-- What point `t` writes back is its block of `outt`. -/
theorem flushed_eq (t : Fin cfg0.N) : (dats m 0 c).flushed 6 t = ((cfg0.win 6).blk t).view.read (Elt Ideal) (outt m c) := by
  show (cfg0.win 6).cut (grid0.coords t) ((dats m 0 c).after 6 t) = _
  rw [after0_6, out_eq_block, (weight_blocks m c t).1, (weight_blocks m c t).2.1, (weight_blocks m c t).2.2.1, (weight_blocks m c t).2.2.2]
  funext y
  obtain ⟨p, e, b, rfl⟩ : ∃ (p : Fin 10) (e : Fin 32) (b : Fin 8192), y = (ix3 p e b : S10x32x8192.Idx) := ⟨y 0, y 1, y 2, by
    funext a
    match a with
    | ⟨0, _⟩ => rfl
    | ⟨1, _⟩ => rfl
    | ⟨2, _⟩ => rfl⟩
  have hy : ((cfg0.win 6).blk t).view.emb (ix3 p e b : S10x32x8192.Idx) = (ix3 (pos t p) e b : S200x32x8192.Idx) := by
    obtain ⟨-, -, -, -, -, -, h0, h1, h2⟩ := index_facts t
    funext a
    apply Fin.ext
    match a with
    | ⟨0, _⟩ => exact (win0_6.rect_emb_val t _ 0).trans (by rw [h0]; rfl)
    | ⟨1, _⟩ => exact win0_6.rect_emb_val_of_index_zero t 1 h1 _
    | ⟨2, _⟩ => exact win0_6.rect_emb_val_of_index_zero t 2 h2 _
  show block (iblk m c 0 t) (iblk m c 1 t) _ _ _ _ (ix3 p e b) = outt m c (((cfg0.win 6).blk t).view.emb (ix3 p e b : S10x32x8192.Idx))
  rw [hy]
  show column (IntOp.cmpi .eq (iblk m c 0 t (ix3 p (0 : Fin 1) b : S10x1x8192.Idx)) 50#32) _ _ _ _
    (fun f => iblk m c 1 t (ix3 p f b : S10x32x8192.Idx)) e = _
  rw [mask_block]
  simp only [input_block]
  rfl

/-- Point `t`'s block of the output is ten planes: those from `10 t` on. -/
theorem mem_blk (t : Fin cfg0.N) (i : S200x32x8192.Idx) :
    i ∈ ((cfg0.win 6).blk t).view.set ↔ t.val * 10 ≤ (i 0).val ∧ (i 0).val < t.val * 10 + 10 := by
  obtain ⟨-, -, -, -, -, -, h0, h1, h2⟩ := index_facts t
  show i ∈ ((View.whole main_call0_v15).slice (win0_6.rect t)).set ↔ _
  rw [View.set_slice_whole, Rect.mem_set_unit]
  have e0 : win0_6.index t 0 * win0_6.size 0 = t.val * 10 := by rw [h0]; rfl
  have e1 : win0_6.index t 1 * win0_6.size 1 = 0 := by rw [h1]; exact Nat.zero_mul _
  have e2 : win0_6.index t 2 * win0_6.size 2 = 0 := by rw [h2]; exact Nat.zero_mul _
  have l1 : (i 1).val < 32 := (i 1).isLt
  have l2 : (i 2).val < 8192 := (i 2).isLt
  refine ⟨fun h => ?_, fun h a => ?_⟩
  · have q : win0_6.index t 0 * win0_6.size 0 ≤ (i 0).val ∧ (i 0).val < win0_6.index t 0 * win0_6.size 0 + 10 := h 0
    rw [e0] at q
    exact q
  · match a with
    | ⟨0, _⟩ =>
      show win0_6.index t 0 * win0_6.size 0 ≤ (i 0).val ∧ (i 0).val < win0_6.index t 0 * win0_6.size 0 + 10
      rw [e0]; exact h
    | ⟨1, _⟩ =>
      show win0_6.index t 1 * win0_6.size 1 ≤ (i 1).val ∧ (i 1).val < win0_6.index t 1 * win0_6.size 1 + 32
      rw [e1]; omega
    | ⟨2, _⟩ =>
      show win0_6.index t 2 * win0_6.size 2 ≤ (i 2).val ∧ (i 2).val < win0_6.index t 2 * win0_6.size 2 + 8192
      rw [e2]; omega

/-- **The array after the run**: the transposed output. -/
theorem final : (dats m 0 c).arrAt 6 cfg0.N = outt m c := by
  refine (dats m 0 c).arrAt_eq_of_cover 6 (outt m c) (fun t _ => flushed_eq m c t) fun i => ?_
  have hi : (i 0).val < 200 := (i 0).isLt
  have hN : cfg0.N = 20 := N_0
  exact ⟨⟨(i 0).val / 10, by omega⟩, flush0_6 _, (mem_blk _ i).2 (by dsimp only; omega)⟩

end Cert.KernelIdeal.Array

end
-- ==== Proof.Prefix.lean ====
/-
  The arrays that the grid reads, as functions of the arguments: what the host operations before the grid leave.
-/
module

public import proofs.«01_k».proof.Proof.Gen.KernelIdeal.Frame
public import proofs.«01_k».proof.Proof.Mlp
public import Idealize.ShloMosaic.Lib.Pipeline.Value
public import Idealize.ShloMosaic.Lib.Pointwise
public import Idealize.ShloMosaic.Lib.Routing.OpsOne
public import Idealize.ShloMosaic.Lib.StableHlo.ReadAt

@[expose] public section

noncomputable section

namespace Cert.KernelIdeal.Prefix

open Idealize.ShloMosaic Idealize.ShloMosaic.TcCoe Cert.KernelIdeal Cert.KernelIdeal.Gen Cert.Mlp

variable (m : (ℓ : Loc nD τ sig) → Buf (Elt Ideal) ℓ) (c : Dev nD)

/-- The column that the host writes into a square of zeros, at any square and any column vector: column zero is the vector, every other element what it was. -/
theorem scatter_apply {α : Type} (z : S32x32.Idx → α) (idx : IVec S1 32) (u : S32.Idx → α) (h : idx (ix1 0) = 0#32) (j f : Fin 32) :
    Host.scatter scatter_S32x32_S1_S32_0_1_1_0 (fun _ b => b) z idx u (ix2 j f) = if f = 0 then u (ix1 j) else z (ix2 j f) := by
  have lands : ∀ k j f : Fin 32, scatter_S32x32_S1_S32_0_1_1_0.resultIdx? (ix1 k) idx = some (ix2 j f) ↔ k = j ∧ f = 0 := fun k j f =>
    Routing.lands_col scatter_S32x32_S1_S32_0_1_1_0 rfl rfl idx 0 (by rw [show idx (ValueIdx.ix1 0) = 0#32 from h]; rfl) k j f
  have only : ∀ k : S32.Idx, scatter_S32x32_S1_S32_0_1_1_0.resultIdx? k idx = some (ix2 j f) → k = ix1 j ∧ f = 0 := fun k hk => by
    have e : k = ix1 (k 0) := funext fun a => by obtain rfl : a = 0 := Subsingleton.elim _ _; rfl
    rw [e] at hk ⊢
    obtain ⟨p, q⟩ := (lands _ j f).1 hk
    exact ⟨congrArg ix1 p, q⟩
  by_cases hf : f = 0
  · rw [if_pos hf]
    exact Routing.scatter_set_hit _ z idx u _ _ (fun k hk => congrArg u (only k hk).1) (ix1 j) ((lands j j f).2 ⟨rfl, hf⟩)
  · rw [if_neg hf]
    exact Routing.scatter_set_miss _ z idx u _ fun k hk => hf (only k hk).2

/-- The input, transposed to (position, feature, batch member). -/
theorem input_apply (n : Fin 200) (f : Fin 32) (b : Fin 8192) :
    V m c main_call0_v0 (ix3 n f b : S200x32x8192.Idx) = m ((c : Thread nD τ).loc main_arg1) (ix3 b n f : S8192x200x32.Idx) := by
  unfold V V0
  simp only [hostOps0, List.flatten_cons, List.flatten_nil, List.append_nil]
  after_reads_at

/-- The states, transposed likewise. -/
theorem state_apply (n : Fin 200) (b : Fin 8192) :
    V m c main_call0_v1 (ix3 n 0 b : S200x1x8192.Idx) = m ((c : Thread nD τ).loc main_arg0) (ix3 b n 0 : S8192x200x1.Idx) := by
  unfold V V0
  simp only [hostOps0, List.flatten_cons, List.flatten_nil, List.append_nil]
  after_reads_at

/-- The first layer's stacked weights, upper half: the vacancy weights in column zero, zeros elsewhere. -/
theorem w1_up (j f : Fin 32) :
    V m c main_call0_v7 (ix2 (up j) f : S64x32.Idx) = if f = 0 then m ((c : Thread nD τ).loc main_arg2) (ix2 0 j : S1x32.Idx) else (0 : EReal) := by
  unfold V V0
  simp only [hostOps0, List.flatten_cons, List.flatten_nil, List.append_nil]
  unfold up
  after_reads_at
  after_reads_at
  refine (scatter_apply _ _ _ rfl j f).trans ?_
  by_cases hf : f = 0
  · rw [if_pos hf, if_pos hf]
    rfl
  · rw [if_neg hf, if_neg hf]
    exact Ideal.ofBits_zero_f32

/-- Its lower half: the shelf weights, transposed. -/
theorem w1_down (j f : Fin 32) :
    V m c main_call0_v7 (ix2 (down j) f : S64x32.Idx) = m ((c : Thread nD τ).loc main_arg6) (ix2 f j : S32x32.Idx) := by
  unfold V V0
  simp only [hostOps0, List.flatten_cons, List.flatten_nil, List.append_nil]
  unfold down
  after_reads_at
  after_reads_at

/-- The second layer's stacked weights, upper half: the vacancy weights, transposed. -/
theorem w2_up (j k : Fin 32) :
    V m c main_call0_v10 (ix2 (up j) k : S64x32.Idx) = m ((c : Thread nD τ).loc main_arg4) (ix2 k j : S32x32.Idx) := by
  unfold V V0
  simp only [hostOps0, List.flatten_cons, List.flatten_nil, List.append_nil]
  unfold up
  after_reads_at
  after_reads_at

/-- Its lower half: the shelf weights, transposed. -/
theorem w2_down (j k : Fin 32) :
    V m c main_call0_v10 (ix2 (down j) k : S64x32.Idx) = m ((c : Thread nD τ).loc main_arg8) (ix2 k j : S32x32.Idx) := by
  unfold V V0
  simp only [hostOps0, List.flatten_cons, List.flatten_nil, List.append_nil]
  unfold down
  after_reads_at
  after_reads_at

/-- The first layer's stacked biases, upper half. -/
theorem b1_up (j : Fin 32) :
    V m c main_call0_v12 (ix2 (up j) 0 : S64x1.Idx) = m ((c : Thread nD τ).loc main_arg3) (ix1 j : S32.Idx) := by
  unfold V V0
  simp only [hostOps0, List.flatten_cons, List.flatten_nil, List.append_nil]
  unfold up
  after_reads_at
  after_reads_at

/-- Its lower half. -/
theorem b1_down (j : Fin 32) :
    V m c main_call0_v12 (ix2 (down j) 0 : S64x1.Idx) = m ((c : Thread nD τ).loc main_arg7) (ix1 j : S32.Idx) := by
  unfold V V0
  simp only [hostOps0, List.flatten_cons, List.flatten_nil, List.append_nil]
  unfold down
  after_reads_at
  after_reads_at

/-- The second layer's stacked biases, upper half. -/
theorem b2_up (j : Fin 32) :
    V m c main_call0_v14 (ix2 (up j) 0 : S64x1.Idx) = m ((c : Thread nD τ).loc main_arg5) (ix1 j : S32.Idx) := by
  unfold V V0
  simp only [hostOps0, List.flatten_cons, List.flatten_nil, List.append_nil]
  unfold up
  after_reads_at
  after_reads_at

/-- Its lower half. -/
theorem b2_down (j : Fin 32) :
    V m c main_call0_v14 (ix2 (down j) 0 : S64x1.Idx) = m ((c : Thread nD τ).loc main_arg9) (ix1 j : S32.Idx) := by
  unfold V V0
  simp only [hostOps0, List.flatten_cons, List.flatten_nil, List.append_nil]
  unfold down
  after_reads_at
  after_reads_at

end Cert.KernelIdeal.Prefix

end
-- ==== Proof.RefValue.lean ====
/-
  The reference, read at an element: the vacancy network on feature zero where the state is 50, the shelf network on all features elsewhere.
-/
module

public import proofs.«01_k».proof.Proof.Gen.ReferenceIdeal.Read
public import proofs.«01_k».proof.Proof.Mlp
public import Idealize.ShloMosaic.Lib.Pointwise

@[expose] public section

noncomputable section

namespace Cert.ReferenceIdeal.RefValue

open Idealize.ShloMosaic Cert.ReferenceIdeal Cert.ReferenceIdeal.Gen Cert.ReferenceIdeal.Read Cert.Mlp

/-- The network's output as a function of the ten arguments: at batch member `b`, position `n` and feature `e`. -/
def net (state : IVec S8192x200x1 32) (x : FVec Ideal S8192x200x32 .f32) (vw1 : FVec Ideal S1x32 .f32) (vb1 : FVec Ideal S32 .f32)
    (vw2 : FVec Ideal S32x32 .f32) (vb2 : FVec Ideal S32 .f32) (sw1 : FVec Ideal S32x32 .f32) (sb1 : FVec Ideal S32 .f32)
    (sw2 : FVec Ideal S32x32 .f32) (sb2 : FVec Ideal S32 .f32) (b : Fin 8192) (n : Fin 200) (e : Fin 32) : EReal :=
  Scalar.select (IntOp.cmpi .eq (state (ix3 b n 0)) 50#32)
    (mlp (fun _ : Fin 1 => x (ix3 b n 0)) (fun f k => vw1 (ix2 f k)) (fun k => vb1 (ix1 k)) (fun k j => vw2 (ix2 k j)) (fun j => vb2 (ix1 j)) e)
    (mlp (fun f => x (ix3 b n f)) (fun f k => sw1 (ix2 f k)) (fun k => sb1 (ix1 k)) (fun k j => sw2 (ix2 k j)) (fun j => sb2 (ix1 j)) e)

variable (x0 : (⟨S8192x200x1, .i32⟩ : BufTy).Contents (Elt Ideal)) (x1 : (⟨S8192x200x32, .f32⟩ : BufTy).Contents (Elt Ideal))
  (x2 : (⟨S1x32, .f32⟩ : BufTy).Contents (Elt Ideal)) (x3 : (⟨S32, .f32⟩ : BufTy).Contents (Elt Ideal))
  (x4 : (⟨S32x32, .f32⟩ : BufTy).Contents (Elt Ideal)) (x5 : (⟨S32, .f32⟩ : BufTy).Contents (Elt Ideal))
  (x6 : (⟨S32x32, .f32⟩ : BufTy).Contents (Elt Ideal)) (x7 : (⟨S32, .f32⟩ : BufTy).Contents (Elt Ideal))
  (x8 : (⟨S32x32, .f32⟩ : BufTy).Contents (Elt Ideal)) (x9 : (⟨S32, .f32⟩ : BufTy).Contents (Elt Ideal))

/-- The vacancy network's first layer. -/
theorem v12_apply (b : Fin 8192) (n : Fin 200) (k : Fin 32) :
    val_main_v12 (F := Ideal) x1 x2 x3 (ix3 b n k)
      = layer (fun _ : Fin 1 => x1 (ix3 b n 0)) (fun f k => x2 (ix2 f k)) (fun k => x3 (ix1 k)) k := by
  pointwise [val_main_v12, val_main_v11, val_main_v10, val_main_v9, val_main_v8, val_main_v7, val_main_v6, val_main_v5, val_main_v4,
    val_main_v3, val_main_cst, val_main_cst_0]
  exact ite_eq_leaky _

/-- The vacancy network. -/
theorem v21_apply (b : Fin 8192) (n : Fin 200) (e : Fin 32) :
    val_main_v21 (F := Ideal) x1 x2 x3 x4 x5 (ix3 b n e)
      = mlp (fun _ : Fin 1 => x1 (ix3 b n 0)) (fun f k => x2 (ix2 f k)) (fun k => x3 (ix1 k)) (fun k j => x4 (ix2 k j)) (fun j => x5 (ix1 j)) e := by
  pointwise [val_main_v21, val_main_v20, val_main_v19, val_main_v18, val_main_v17, val_main_v16, val_main_v15, val_main_v14, val_main_v13,
    val_main_cst_1, val_main_cst_2]
  simp only [v12_apply]
  exact ite_eq_leaky _

/-- The shelf network's first layer. -/
theorem v30_apply (b : Fin 8192) (n : Fin 200) (k : Fin 32) :
    val_main_v30 (F := Ideal) x1 x6 x7 (ix3 b n k)
      = layer (fun f => x1 (ix3 b n f)) (fun f k => x6 (ix2 f k)) (fun k => x7 (ix1 k)) k := by
  pointwise [val_main_v30, val_main_v29, val_main_v28, val_main_v27, val_main_v26, val_main_v25, val_main_v24, val_main_v23, val_main_v22,
    val_main_cst_3, val_main_cst_4]
  exact ite_eq_leaky _

/-- The shelf network. -/
theorem v39_apply (b : Fin 8192) (n : Fin 200) (e : Fin 32) :
    val_main_v39 (F := Ideal) x1 x6 x7 x8 x9 (ix3 b n e)
      = mlp (fun f => x1 (ix3 b n f)) (fun f k => x6 (ix2 f k)) (fun k => x7 (ix1 k)) (fun k j => x8 (ix2 k j)) (fun j => x9 (ix1 j)) e := by
  pointwise [val_main_v39, val_main_v38, val_main_v37, val_main_v36, val_main_v35, val_main_v34, val_main_v33, val_main_v32, val_main_v31,
    val_main_cst_5, val_main_cst_6]
  simp only [v30_apply]
  exact ite_eq_leaky _

/-- **The reference's result**: the network, element by element. -/
theorem v41_apply (b : Fin 8192) (n : Fin 200) (e : Fin 32) :
    val_main_v41 (F := Ideal) x0 x1 x2 x3 x4 x5 x6 x7 x8 x9 (ix3 b n e) = net x0 x1 x2 x3 x4 x5 x6 x7 x8 x9 b n e := by
  pointwise [val_main_v41, val_main_call4_v0, val_main_v40, val_main_v2, val_main_v1, val_main_v0, val_main_c]
  rw [v21_apply, v39_apply]
  rfl

/-- The network as a whole array. -/
abbrev nets : FVec Ideal S8192x200x32 .f32 := fun i => net x0 x1 x2 x3 x4 x5 x6 x7 x8 x9 (i 0) (i 1) (i 2)

theorem v41_eq : val_main_v41 (F := Ideal) x0 x1 x2 x3 x4 x5 x6 x7 x8 x9 = nets x0 x1 x2 x3 x4 x5 x6 x7 x8 x9 :=
  funext fun (i : S8192x200x32.Idx) => (congrArg _ (eq_ix3 i)).trans (v41_apply x0 x1 x2 x3 x4 x5 x6 x7 x8 x9 (i 0) (i 1) (i 2))

end Cert.ReferenceIdeal.RefValue

end
-- ==== Proof.Result.lean ====
/-
  The kernel's run with its result: the grid's array, transposed back by the host, is the network of the arguments, element by element.
-/
module

public import proofs.«01_k».proof.Proof.Array
public import proofs.«01_k».proof.Proof.Prefix
public import proofs.«01_k».proof.Proof.RefValue

@[expose] public section

noncomputable section

namespace Cert.KernelIdeal.Result

open Idealize.ShloMosaic Idealize.ShloMosaic.TcCoe Idealize.SL.Sem Cert.KernelIdeal Cert.KernelIdeal.Gen Cert.KernelIdeal.Array
open Cert.KernelIdeal.Prefix Cert.Mlp
open Cert.ReferenceIdeal.RefValue (nets)

variable (m : (ℓ : Loc nD τ sig) → Buf (Elt Ideal) ℓ) (c : Dev nD)

/-- The result as a function of the arguments. -/
def out : FVec Ideal S8192x200x32 .f32 :=
  nets (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The transposed output at `(n, e, b)` is the network at `(b, n, e)`: the stacked weights' halves are the two networks' weights, and the vacancy half of the first layer, zero but for
    feature zero, is a layer over that feature alone. -/
theorem outt_apply (n : Fin 200) (e : Fin 32) (b : Fin 8192) : outt m c (ix3 n e b) = out m c (ix3 b n e) := by
  show column (IntOp.cmpi .eq (V m c main_call0_v1 (ix3 n 0 b : S200x1x8192.Idx)) 50#32) (fun j f => V m c main_call0_v7 (ix2 j f : S64x32.Idx))
    (fun j => V m c main_call0_v12 (ix2 j 0 : S64x1.Idx)) (fun j f => V m c main_call0_v10 (ix2 j f : S64x32.Idx))
    (fun j => V m c main_call0_v14 (ix2 j 0 : S64x1.Idx)) (fun f => V m c main_call0_v0 (ix3 n f b : S200x32x8192.Idx)) e = _
  rw [column_eq, state_apply, funext fun f => input_apply m c n f b, funext fun f => funext fun k => w1_up m c k f,
    funext fun f => funext fun k => w1_down m c k f, funext fun k => b1_up m c k, funext fun k => b1_down m c k, funext fun k => funext fun j => w2_up m c j k,
    funext fun k => funext fun j => w2_down m c j k, funext fun j => b2_up m c j, funext fun j => b2_down m c j]
  unfold mlp
  rw [layer_first]
  rfl

/-- What the host's transpose after the grid leaves in the result. -/
theorem tail_eq : Pipeline.afterTail₀ cfgs (dats m) 0 (V0 m) [hostOps1] c main_v0 = out m c := by
  have grid : Pipeline.withArrays spec0 c (V0 m c) (fun w => (dats m 0 c).arrAt w cfg0.N) (Proc.tc.devRef main_call0_v15) = outt m c :=
    (Pipeline.withArrays_arr spec0 (by decide) c (V0 m c) _ 6).trans (final m c)
  have at_index : ∀ (b : Fin 8192) (n : Fin 200) (e : Fin 32),
      Pipeline.afterTail₀ cfgs (dats m) 0 (V0 m) [hostOps1] c main_v0 (ix3 b n e : S8192x200x32.Idx) = out m c (ix3 b n e) := fun b n e => by
    refine Eq.trans ?_ ((congrFun grid (ix3 n e b)).trans (outt_apply m c n e b))
    unfold Pipeline.afterTail₀
    simp only [hostOps1, List.flatten_cons, List.flatten_nil, List.append_nil]
    after_reads_at
  refine funext fun (i : S8192x200x32.Idx) => ?_
  rw [eq_ix3 i]
  exact at_index _ _ _

/-- **The kernel's run** ends with the network of the arguments in the result. -/
theorem run (ρ : Dev nD → PrngReg) : θ_run defs (onTc (τ := τ) (main (F := Ideal))) ⟨m, fun _ => 0, ρ⟩
    (fun r => ∀ c : Dev nD, r.2.mem ((c.tc : Thread nD τ).loc main_v0) = out m c) :=
  (θ_run defs _ _).mono (fun _ h c => ((h c).2 main_v0 (Pipeline.mem_restRefs_of main_v0 (by decide) (by decide))).trans (tail_eq m c)) (run_main m ρ)

end Cert.KernelIdeal.Result

end
-- ==== Proof.lean ====
/-
  The claims about the kernel, put together. Three say that a program runs to its end, leaves its arguments unchanged and every semaphore at zero: the kernel as it is (bits), the kernel
  over the reals, the reference over the reals. The fourth is that the second is the first over the reals. The last is the value claim: from the same arguments the kernel and the reference
  end with the same result, namely the network `Cert.ReferenceIdeal.RefValue.nets` of the arguments.

  Proof/Mlp        a two-layer network at one point, and the kernel's stacked form of two of them
  Proof/Step       what one step of the grid writes
  Proof/Array      what the whole grid leaves in its output array
  Proof/Prefix     what the host puts in the grid's inputs beforehand
  Proof/RefValue   the reference's result
  Proof/Result     the kernel's result
-/
module

public import proofs.«01_k».proof.Defs
public import proofs.«01_k».proof.Proof.Gen.Kernel.Frame
public import proofs.«01_k».proof.Proof.Gen.Kernel
public import proofs.«01_k».proof.Proof.Gen.ReferenceIdeal.Run
public import proofs.«01_k».proof.Proof.Result
public import Idealize.ShloMosaic.Lib.Quiescent

@[expose] public section

noncomputable section

namespace Cert.Proof

open Idealize.ShloMosaic Idealize.SL.Sem

/-- The reference declares no semaphore, so it ends with every one at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The common result is the network of the kernel's arguments; the reference's arguments are the same arrays. -/
theorem values_agree : Cert.algebraic_KernelIdeal_ReferenceIdeal (hKernelIdeal := Cert.KernelIdeal.Gen.facts) (hReferenceIdeal := Cert.ReferenceIdeal.Gen.facts) :=
  fun m ρ m' ρ' _ same => ⟨Cert.KernelIdeal.Result.out m,
    (θ_run Cert.KernelIdeal.defs _ _).mono (fun _ h c => ⟨h.1 c, h.2 c⟩) (θ_run_and (Cert.KernelIdeal.Result.run m ρ) (Cert.KernelIdeal.Gen.unchanged m ρ)),
    (θ_run Cert.ReferenceIdeal.defs _ _).mono (fun _ h c => ⟨(h c).1.trans (by
      obtain ⟨e0, e1, e2, e3, e4, e5, e6, e7, e8, e9⟩ := same c
      rw [Cert.ReferenceIdeal.Read.val_main_v41_eq, Cert.ReferenceIdeal.RefValue.v41_eq, e0, e1, e2, e3, e4, e5, e6, e7, e8, e9]
      rfl), (h c).2⟩) (Cert.ReferenceIdeal.Value.run (F := Ideal) m' ρ')⟩

theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, reference_frame, trivial, values_agree⟩

end Cert.Proof

end
